-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![256]⟩ ⟨1, ![512]⟩ (Layout.meshBlock [2, 2] ![[1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![512, 256]⟩ ⟨2, ![1024, 512]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256 : Shape := ⟨1, ![256]⟩
abbrev S1x256 : Shape := ⟨2, ![1, 256]⟩
abbrev S4x128 : Shape := ⟨2, ![4, 128]⟩
abbrev S_ : Shape := ⟨0, ![]⟩
abbrev S4x128x256 : Shape := ⟨3, ![4, 128, 256]⟩
abbrev S1x1x256 : Shape := ⟨3, ![1, 1, 256]⟩
abbrev S4x128x1 : Shape := ⟨3, ![4, 128, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256, .f32⟩
  | .hbm, ⟨2, _⟩ => ⟨S1x256, .f32⟩
  | .hbm, ⟨3, _⟩ => ⟨S512x256, .bf16⟩
  | .local _ .vmem, ⟨0, _⟩ => ⟨S512x256, .f32⟩
  | .local _ .vmem, ⟨1, _⟩ => ⟨S1x256, .f32⟩
  | .local _ .vmem, ⟨2, _⟩ => ⟨S512x256, .bf16⟩
  | .local _ .vmem, ⟨3, _⟩ => ⟨S4x128, .f32⟩
  | .local _ .vmem, ⟨4, _⟩ => ⟨S4x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v20 : BitVec 32 := Scalar.muli v2 c2_i32_10
  let v21 : BitVec 32 := Scalar.addi c0_i32_11 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_12 : BitVec 32 := 1#32
  let v22 : BitVec 32 := Scalar.muli v6 c1_i32_12
  let v23 : BitVec 32 := Scalar.addi v21 v22
  v23.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S1024x512, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Exchange.lean ====
/-
  The exchange of partial sums between the two devices of a mesh row, as a schedule over three kinds of semaphore:
  the gate (the barrier semaphore), the outgoing copy's semaphore and the incoming copy's. Each kind is used once a run.
-/
module

public import proofs.«01_k».proof.Proof.Gen.KernelIdeal.Skeleton
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic

@[expose] public section

noncomputable section

namespace Cert.KernelIdeal.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

/-! ## The partner -/

/-- The other device of the row: same first mesh coordinate, the other second one. -/
def mate (c : Dev nD) : Dev nD := ⟨(2 * (c.val / 2) + 1) - (c.val % 2), by have := c.isLt; change c.val < 4 at this; change _ < 4; omega⟩

theorem mate_mate (c : Dev nD) : mate (mate c) = c := by revert c; decide

/-- Taking the partner, as a permutation of the devices. -/
def mates : Dev nD ≃ Dev nD := ⟨mate, mate, mate_mate, mate_mate⟩

theorem signalled (c : Dev nD) : (⟨k0_dev1 c, k0_dev1_lt c⟩ : Dev nD) = mate c := Fin.ext (k0_dev1_eq c)
theorem copiedTo (c : Dev nD) : (⟨k0_dev2 c, k0_dev2_lt c⟩ : Dev nD) = mate c := Fin.ext (k0_dev2_eq c)

/-! ## Resources -/

/-- The pipeline's rounds beside the exchange's. -/
abbrev Two : Type := UR sig nD τ × UR sig nD τ

local notation "𝕄" => MT nD τ sig Unit (Elt F) ℕ Two ℕ

abbrev ePipe : Emb (UR sig nD τ) (MT nD τ sig Unit (Elt F) ℕ Two ℕ) := embL
abbrev eEx : Emb (UR sig nD τ) (MT nD τ sig Unit (Elt F) ℕ Two ℕ) := embR

abbrev mine : Memref sig .tc .vmem S4x128 .f32 := Memref.whole cc0_scratch0
abbrev theirs : Memref sig .tc .vmem S4x128 .f32 := Memref.whole cc0_scratch1

/-- What one copy of a partial-sum buffer moves. -/
abbrev quantum : ℕ := theirs.view.dmaCredit

theorem quantum_pos : 0 < quantum := View.dmaCredit_pos _ (by decide)

/-- The three semaphores of the exchange: gate, outgoing copy, incoming copy. -/
def spot : Fin 3 → SemLoc sig
  | 0 => .reg barrier0
  | 1 => .dma cc0_scratch2.sem
  | 2 => .dma cc0_scratch3.sem

theorem spot_inj : Function.Injective spot := by decide

/-- Which of the three a semaphore is, if any. -/
def kind (s : SemLoc sig) : Option (Fin 3) :=
  if s = spot 0 then some 0 else if s = spot 1 then some 1 else if s = spot 2 then some 2 else none

theorem kind_spot (k : Fin 3) : kind (spot k) = some k := by revert k; decide

/-- Device `c`'s semaphore of kind `k`. -/
abbrev cell (c : Dev nD) (k : Fin 3) : GSem nD τ sig := ((c : Thread nD τ), spot k)

theorem cell_inj {c d : Dev nD} {k l : Fin 3} (h : cell c k = cell d l) : c = d ∧ k = l :=
  ⟨congrArg (fun g : GSem nD τ sig => g.1.1) h, spot_inj (congrArg Prod.snd h)⟩

/-- Buffer `b` of device `c`, held at share `q` with contents `f`. -/
abbrev at_ (c : Dev nD) (b : Ref sig .tc) (q : PosShare TreeShare) (f : b.ty.Contents (Elt F)) : sProp 𝕄 :=
  ((c : Thread nD τ).loc b) ↦{q} f

/-- Buffer `b` of device `c`, held whole with contents not stated. -/
abbrev some_ (c : Dev nD) (b : Ref sig .tc) : sProp 𝕄 :=
  iprop(∃ f : Buf (Elt F) ((c : Thread nD τ).loc b), ((c : Thread nD τ).loc b) ↦{fullShare} f)

variable [FloatOps F]
variable (m : (ℓ : Loc nD τ sig) → Buf (Elt F) ℓ)

/-- Device `c`'s block of `x`, as the kernel is handed it. -/
abbrev xBlk (c : Dev nD) : (cc0_stg0_0 : Ref sig .tc).ty.Contents (Elt F) := iblk m c 0 t0_0
/-- Device `c`'s block of `gamma`, as the kernel is handed it. -/
abbrev gBlk (c : Dev nD) : (cc0_stg1_0 : Ref sig .tc).ty.Contents (Elt F) := iblk m c 1 t0_0
/-- Device `c`'s partial sums: the sums of squares along its half of each row. -/
def part (c : Dev nD) : (cc0_scratch0 : Ref sig .tc).ty.Contents (Elt F) := k0_pay3 (xBlk m c)
/-- What device `c` leaves in its result block. -/
def made (c : Dev nD) : (cc0_stg2_0 : Ref sig .tc).ty.Contents (Elt F) :=
  k0_pay1 (k0_pay4 (xBlk m c) (gBlk m c)) (part m c) (part m (mate c))

/-! ## The schedule -/

/-- What comes to device `c` with one unit of each kind. With the gate's: the partner's landing buffer, and that the
    partner's incoming semaphore is in its first round. With the outgoing copy's: the lent half of its partial sums.
    With the incoming copy's: its landing buffer, holding the partner's partial sums. -/
def brings : Option (Fin 3) → Dev nD → sProp 𝕄
  | some 0, c => iprop(some_ (mate c) cc0_scratch1 ∗ reached eEx (cell (mate c) 2) 0)
  | some 1, c => at_ c cc0_scratch0 fullShare.left (part m c)
  | some 2, c => at_ c cc0_scratch1 fullShare (part m (mate c))
  | none, _ => iprop(emp)

theorem brings_gate (c : Dev nD) : brings m (some 0) c = iprop(some_ (mate c) cc0_scratch1 ∗ reached eEx (cell (mate c) 2) 0) := rfl
theorem brings_out (c : Dev nD) : brings m (some 1) c = at_ c cc0_scratch0 fullShare.left (part m c) := rfl
theorem brings_in (c : Dev nD) : brings m (some 2) c = at_ c cc0_scratch1 fullShare (part m (mate c)) := rfl

/-- How much one duty of each kind pays. -/
def pays : Option (Fin 3) → ℕ
  | some 0 => 1
  | _ => quantum

theorem pays_pos (k : Option (Fin 3)) : 0 < pays k := by
  unfold pays; split
  · exact Nat.one_pos
  · exact quantum_pos

/-- One duty on each of the three semaphores of every device, in their first round; none later. -/
def plan : Rounds.Schedule (GSem nD τ sig) Unit 𝕄 where
  duties g r := if r = 0 ∧ g.1.2 = .tc ∧ (kind g.2).isSome then {()} else ∅
  unitless _ := False
  amount g _ _ := pays (kind g.2)
  payload g _ _ := brings m (kind g.2) g.1.1
  amount_pos g _ _ _ := pays_pos (kind g.2)

instance plan_storable (g : GSem nD τ sig) (r : ℕ) (d : Unit) : BI.Storable (upEmb : UEmb _ 𝕄) ((plan m).payload g r d) := by
  show BI.Storable upEmb (brings m (kind g.2) g.1.1)
  unfold brings
  split <;> infer_instance

section Facts
variable (c : Dev nD) (k : Fin 3) (u : Unit)

theorem plan_duties : (plan m).duties (cell c k) 0 = {()} := by
  dsimp only [plan]; rw [kind_spot]; exact if_pos ⟨rfl, rfl, rfl⟩
theorem plan_duty : u ∈ (plan m).duties (cell c k) 0 := by rw [plan_duties]; exact Finset.mem_singleton_self _
theorem plan_later (g : GSem nD τ sig) : ∀ r, 0 + 1 ≤ r → (plan m).duties g r = ∅ := fun r hr => by
  dsimp only [plan]; exact if_neg fun h => by omega
theorem plan_amount : (plan m).amount (cell c k) 0 u = pays (some k) := by dsimp only [plan]; rw [kind_spot]
theorem plan_payload : (plan m).payload (cell c k) 0 u = brings m (some k) c := by dsimp only [plan]; rw [kind_spot]
theorem plan_expect : (plan m).expect (cell c k) 0 = pays (some k) := by
  unfold Schedule.expect Schedule.amountOf; rw [plan_duties, Finset.sum_singleton, plan_amount]
theorem plan_rest : bigSep ((plan m).duties (cell c k) 0 \ ∅) (fun u => (plan m).payload (cell c k) 0 u) = brings m (some k) c := by
  rw [Finset.sdiff_empty, plan_duties, bigSep_singleton, plan_payload]

end Facts

/-! ## Levels and debts -/

/-- At launch device `c` owes its partner a gate unit and a copy. -/
def debt (c : Dev nD) : CellTallies nD τ sig Unit := tallyAt (cell (mate c) 2) () quantum + tallyAt (cell (mate c) 0) () 1

def labels (g : GSem nD τ sig) : Finset Unit := if g.1.2 = .tc then {()} else ∅

/-- Incoming copies above gates, gates above everything else. -/
def level (g : GSem nD τ sig) (_ : Unit) : ℕ := match kind g.2 with | some 0 => 1 | some 2 => 2 | _ => 0

theorem labels_off (g : GSem nD τ sig) (h : g.1.2 ≠ .tc) : labels g = ∅ := if_neg h
theorem labels_tc (c : Dev nD) (s : SemLoc sig) : () ∈ labels ((c : Thread nD τ), s) := by
  unfold labels; rw [if_pos rfl]; exact Finset.mem_singleton_self _

theorem level_cell (c : Dev nD) (k : Fin 3) : level (cell c k) () = match k with | 0 => 1 | 1 => 0 | 2 => 2 := by
  unfold level; rw [kind_spot]; revert k; decide

/-- A tally at one cell is positive only there. -/
theorem tally_pos {g h : GSem nD τ sig} {n : ℕ} {u : Unit} (hp : 0 < (tallyAt g () n : CellTallies nD τ sig Unit) h u) : h = g := by
  rw [tallyAt_apply] at hp
  split at hp
  · next e => exact e.1
  · exact absurd hp (Nat.lt_irrefl 0)

theorem debt_pos {c : Dev nD} {g : GSem nD τ sig} {u : Unit} (h : 0 < debt c g u) : g = cell (mate c) 2 ∨ g = cell (mate c) 0 := by
  unfold debt at h
  rw [Pi.add_apply, Finsupp.add_apply] at h
  exact (Nat.add_pos_iff_pos_or_pos.mp h).imp tally_pos tally_pos

/-- Waiting at the gate while owing the copy is in order. -/
theorem gate_waits (c : Dev nD) :
    (levAts labels level : sProp 𝕄) ⊢ MayWait (c : Thread nD τ) (spot 0) () (tallyAt (cell (mate c) 2) () quantum) :=
  MayOwe.of_cut (L := labels) (lev := level) 1 (fun p hp => by rw [Finset.mem_singleton.mp hp]; exact labels_tc _ _)
    (fun g u hg => by rw [tally_pos hg]; exact labels_tc _ _)
    (fun p hp => by rw [Finset.mem_singleton.mp hp]; exact (level_cell c 0).le)
    (fun g u hg => by rw [tally_pos hg]; exact (by rw [level_cell]; decide : 1 < level (cell (mate c) 2) ()))

/-! ## Ghost state -/

/-- The names under which the invariants device `c` opens are known: its own three, its partner's gate and incoming. -/
def known (K : GSem nD τ sig → ℕ) (c : Dev nD) : sProp 𝕄 :=
  iprop((cellInv eEx (plan m) (K (cell c 0)) (cell c 0) ∗ cellInv eEx (plan m) (K (cell c 1)) (cell c 1)
      ∗ cellInv eEx (plan m) (K (cell c 2)) (cell c 2))
    ∗ cellInv eEx (plan m) (K (cell (mate c) 0)) (cell (mate c) 0) ∗ cellInv eEx (plan m) (K (cell (mate c) 2)) (cell (mate c) 2))

instance known_persistent (K : GSem nD τ sig → ℕ) (c : Dev nD) : BI.Persistent (known m K c) := by unfold known; infer_instance

/-- The duties device `c` discharges: its partner's gate, its own outgoing copy, its partner's incoming one. -/
def dues (c : Dev nD) : sProp 𝕄 :=
  iprop(dutyTok eEx (cell (mate c) 0) 0 () ∗ dutyTok eEx (cell c 1) 0 () ∗ dutyTok eEx (cell (mate c) 2) 0 ())

/-- The credit device `c` waits with at launch. -/
def purse (c : Dev nD) : sProp 𝕄 := iprop(cred (tallyAt (cell c 0) () 1) ∗ cred (tallyAt (cell c 2) () quantum))

/-- From the launch to the kernel: the two copy semaphores not yet opened. -/
def sealed (K : GSem nD τ sig → ℕ) (c : Dev nD) : sProp 𝕄 :=
  iprop(known m K c ∗ atPos eEx (cell c 0) 0 ∅ 0 ∗ (openTok eEx (cell c 1) ∗ openTok eEx (cell c 2))
    ∗ reached eEx (cell (mate c) 0) 0 ∗ dues c)

/-- In the kernel: all three semaphores open, at their first round. -/
def unsealed (K : GSem nD τ sig → ℕ) (c : Dev nD) : sProp 𝕄 :=
  iprop(known m K c ∗ (atPos eEx (cell c 0) 0 ∅ 0 ∗ atPos eEx (cell c 1) 0 ∅ 0 ∗ atPos eEx (cell c 2) 0 ∅ 0)
    ∗ (reached eEx (cell (mate c) 0) 0 ∗ reached eEx (cell c 1) 0 ∗ reached eEx (cell c 2) 0) ∗ dues c)

/-- Once its one round is over a semaphore's counter is handed back at zero. -/
theorem retire (κ : ℕ) (g : GSem nD τ sig) :
    iprop(cellInv eEx (plan m) κ g ∗ atPos eEx g (0 + 1) ∅ 0) ⊢ (|={Set.univ}=> semVal g 0 : sProp 𝕄) :=
  Rounds.cell_close eEx (plan m) (Set.mem_univ κ) id (plan_later m g)

abbrev 𝒱₀ : Variants := Variants.none

/-! ## Reading and writing whole buffers -/

omit [FloatOps F] in
theorem origin : (![0, 0] : Fin 2 → Nat) = fun _ => 0 := funext fun a => by fin_cases a <;> rfl

end Cert.KernelIdeal.Exchange

end
-- ==== Proof.Body.lean ====
/-
  The kernel body run against the exchange's schedule: what it is handed, what it leaves, and that it gets there.
-/
module

public import proofs.«01_k».proof.Proof.Exchange

@[expose] public section

noncomputable section

namespace Cert.KernelIdeal.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ Two ℕ

variable (m : (ℓ : Loc nD τ sig) → Buf (Elt F) ℓ)

/-- A whole buffer is held as its two halves. -/
theorem halves (c : Dev nD) (b : Ref sig .tc) (f : b.ty.Contents (Elt F)) :
    (at_ c b fullShare f : sProp 𝕄) ⊣⊢ iprop(at_ c b fullShare.left f ∗ at_ c b fullShare.right f) :=
  pointsTo_share (PosShare.mem_left_op_right fullShare)

/-- Every cell of a whole buffer is its own. -/
theorem whole_set (b : Ref sig .tc) : (Memref.whole b).view.set = Finset.univ := View.set_whole _

/-- A copy of one partial-sum buffer over another leaves the second equal to the first. -/
theorem copied (fd fs : (cc0_scratch1 : Ref sig .tc).ty.Contents (Elt F)) :
    theirs.view.write (Elt F) fd (mine.view.read (Elt F) fs) Finset.univ = fs := by
  show (View.whole cc0_scratch1).write (Elt F) fd ((View.whole cc0_scratch0).read (Elt F) fs) Finset.univ = fs
  rw [View.read_whole]
  exact View.write_whole_univ _ _ _

/-- Both partial-sum buffers are moved by the same amount. -/
theorem same_quantum : mine.view.dmaCredit = quantum := rfl

abbrev all4 : Rect S4x128 := Rect.unit (s := S4x128) ![0, 0] S4x128.size inb_S4x128_S4x128_0_0
abbrev all5 : Rect S512x256 := Rect.unit (s := S512x256) ![0, 0] S512x256.size inb_S512x256_S512x256_0_0
abbrev all1 : Rect S1x256 := Rect.unit (s := S1x256) ![0, 0] S1x256.size inb_S1x256_S1x256_0_0

theorem load_x (f : (cc0_stg0_0 : Ref sig .tc).ty.Contents (Elt F)) :
    (Memref.whole cc0_stg0_0 : Memref sig .tc .vmem S512x256 .f32).view.readAt (Elt F) all5.toLoadRect f = f :=
  Memref.readAt_unit_zero (Elt F) cc0_stg0_0 origin _ f
theorem load_g (f : (cc0_stg1_0 : Ref sig .tc).ty.Contents (Elt F)) :
    (Memref.whole cc0_stg1_0 : Memref sig .tc .vmem S1x256 .f32).view.readAt (Elt F) all1.toLoadRect f = f :=
  Memref.readAt_unit_zero (Elt F) cc0_stg1_0 origin _ f
theorem load_mine (f : (cc0_scratch0 : Ref sig .tc).ty.Contents (Elt F)) : mine.view.readAt (Elt F) all4.toLoadRect f = f :=
  Memref.readAt_unit_zero (Elt F) cc0_scratch0 origin _ f
theorem load_theirs (f : (cc0_scratch1 : Ref sig .tc).ty.Contents (Elt F)) : theirs.view.readAt (Elt F) all4.toLoadRect f = f :=
  Memref.readAt_unit_zero (Elt F) cc0_scratch1 origin _ f
theorem store_mine (f w : (cc0_scratch0 : Ref sig .tc).ty.Contents (Elt F)) :
    (mine.access all4 : View sig .tc _ _ _).write (Elt F) f w Finset.univ = w :=
  Memref.write_access_unit_zero_univ (Elt F) cc0_scratch0 origin _ f w
theorem store_out (f w : (cc0_stg2_0 : Ref sig .tc).ty.Contents (Elt F)) :
    ((Memref.whole cc0_stg2_0 : Memref sig .tc .vmem S512x256 .bf16).access all5 : View sig .tc _ _ _).write (Elt F) f w Finset.univ = w :=
  Memref.write_access_unit_zero_univ (Elt F) cc0_stg2_0 origin _ f w

/-- What the body starts from. -/
def before (K : GSem nD τ sig → ℕ) (c : Dev nD) (W : Waits sig Unit) : sProp 𝕄 :=
  iprop(unsealed m K c ∗ purse c ∗ levAts labels level ∗ (some_ c cc0_scratch0 ∗ some_ c cc0_scratch1)
    ∗ at_ c cc0_stg0_0 fullShare (xBlk m c) ∗ at_ c cc0_stg1_0 fullShare (gBlk m c) ∗ some_ c cc0_stg2_0
    ∗ owes (c : Thread nD τ) (debt c) W)

/-- What the body leaves: the three counters at zero, the scratch buffers, the two blocks as they were, the result block
    made, and no debt. -/
def afterwards (c : Dev nD) : sProp 𝕄 :=
  iprop(semVal (cell c 0) 0 ∗ (semVal (cell c 1) 0 ∗ semVal (cell c 2) 0) ∗ (some_ c cc0_scratch0 ∗ some_ c cc0_scratch1)
    ∗ at_ c cc0_stg0_0 fullShare (xBlk m c) ∗ at_ c cc0_stg1_0 fullShare (gBlk m c) ∗ at_ c cc0_stg2_0 fullShare (made m c)
    ∗ ∃ W, owes (c : Thread nD τ) (0 : CellTallies nD τ sig Unit) W)

/-- Sending half of one's partial sums into the partner's landing buffer. -/
theorem send (K : GSem nD τ sig → ℕ) (c n : Dev nD) (hn : n = mate c)
    {hsc : (theirs : Memref sig (Dev.tc n : Thread nD τ).2.kind .vmem S4x128 .f32).view.ref.isScScratch = false}
    {hsrc : (mine : Memref sig .tc .vmem S4x128 .f32).view.WordExact} {hdst : (theirs : Memref sig .tc .vmem S4x128 .f32).view.WordExact}
    {hsem : DmaTarget.Typed .vmem (.dma cc0_scratch3.sem) (.remote (Dev.tc n : Thread nD τ) theirs (.dma cc0_scratch2.sem) hsc)}
    {α : Type} {Q : α → sProp 𝕄} {k : PUnit → Prog (TpuEff nD τ sig (Elt F) Λ₀ .tc) α}
    (fn : (cc0_scratch1 : Ref sig .tc).ty.Contents (Elt F)) (W : Waits sig Unit) :
    iprop(cellInv eEx (plan m) (K (cell c 1)) (cell c 1) ∗ cellInv eEx (plan m) (K (cell (mate c) 2)) (cell (mate c) 2)
        ∗ at_ c cc0_scratch0 fullShare.left (part m c) ∗ at_ (mate c) cc0_scratch1 fullShare fn
        ∗ owes (c : Thread nD τ) (tallyAt (cell (mate c) 2) () quantum) W
        ∗ dutyTok eEx (cell c 1) 0 () ∗ reached eEx (cell c 1) 0 ∗ dutyTok eEx (cell (mate c) 2) 0 () ∗ reached eEx (cell (mate c) 2) 0)
      ⊢ iprop(((cred (tallyAt (cell c 1) () quantum) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mine (.remote (Dev.tc n : Thread nD τ) theirs (.dma cc0_scratch2.sem) hsc) (.dma cc0_scratch3.sem) hsrc hdst hsem) k) Q) := by
  subst hn
  have hs : (at_ c cc0_scratch0 fullShare.left (part m c) : sProp 𝕄)
      = (mine.view.loc (c : Thread nD τ) ↦[mine.view.set]{fullShare.left} part m c) := by rw [whole_set]
  have hd : (at_ (mate c) cc0_scratch1 fullShare fn : sProp 𝕄)
      = (theirs.view.loc (mate c : Thread nD τ) ↦[theirs.view.set]{fullShare} fn) := by rw [whole_set]
  rw [hs, hd]
  exact Rounds.wp_send_pointsTo 𝒱₀ eEx (plan m) (c : Thread nD τ) none
    (c' := (mate c : Thread nD τ)) (src := mine) (dst := theirs)
    (sS := spot 1) (sem := spot 2) (q := fullShare.left) (fs := part m c) (κ₁ := K (cell c 1)) (κ₂ := K (cell (mate c) 2))
    (r₁ := 0) (r₂ := 0) (d₁ := ()) (d₂ := ()) (fd := fn)
    (plan_duty m c 1 ()) (plan_duty m (mate c) 2 ()) () () quantum rfl (plan_amount m c 1 ()) (plan_amount m (mate c) 2 ()) 0
    (by rw [zero_add]) (W := W)
    (by rw [plan_payload, whole_set, brings_out])
    (by rw [plan_payload, copied, whole_set, brings_in, mate_mate])

set_option maxHeartbeats 1600000 in
/-- The body, from `before` to `afterwards`. -/
theorem body_run (K : GSem nD τ sig → ℕ) (c : Dev nD) (W : Waits sig Unit) (Kt : PUnit → sProp 𝕄) :
    iprop(before m K c W ∗ (afterwards m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  simp only [signalled c]
  unfold before unsealed known dues purse
  iintro ⟨⟨⟨⟨⟨#I0, #I1, #I2⟩, #J0, #J2⟩, ⟨A0, A1, A2⟩, ⟨#R0, #R1, #R2⟩, D0, D1, D2⟩, ⟨C0, C2⟩, #Hlev, ⟨⟨%p, Hp⟩, ⟨%l, Hl⟩⟩, Hx, Hg, ⟨%o, Ho⟩, HO⟩, Hk⟩
  -- the gate: one's landing buffer goes to the partner
  iapply (Rounds.wp_signal 𝒱₀ eEx (plan m) (c : Thread nD τ) none (dst := (mate c : Thread nD τ)) (sem := barrier0) (r := 0) (d := ()) (κ := K (cell (mate c) 0))
      (plan_duty m (mate c) 0 ()) (plan_amount m (mate c) 0 ()) () (tallyAt (cell (mate c) 2) () quantum) rfl) $$ [HO D0 Hl]
  · isplitr; · iexact J0
    isplitl [HO]; · iexact HO
    isplitl [D0]; · iexact D0
    isplitl [Hl]
    · rw [show (plan m).payload ((mate c : Thread nD τ), SemLoc.reg barrier0) 0 () = brings m (some 0) (mate c) from plan_payload m (mate c) 0 ()]
      rw [brings_gate, mate_mate]
      isplitl [Hl]; · iexists l; iexact Hl
      iexact R2
    · iexact R0
  iintro HO
  -- the partial sums
  iapply (wp_load 𝒱₀ (c : Thread nD τ) none Set.univ (m := Memref.whole cc0_stg0_0) (Finset.subset_univ _)) $$ Hx; iintro Hx
  iapply (wp_load 𝒱₀ (c : Thread nD τ) none Set.univ (m := mine) (Finset.subset_univ _)) $$ Hp; iintro Hp
  iapply (wp_store 𝒱₀ (c : Thread nD τ) none Set.univ (m := mine) (r := all4) (Mk := Finset.univ) (Finset.subset_univ _)) $$ Hp; iintro Hp
  rw [store_mine, load_x]
  -- the partner's gate unit brings its landing buffer
  iapply (Rounds.wp_wait_rest_token 𝒱₀ eEx (plan m) (c : Thread nD τ) none (sm := spot 0) (κ := K (cell c 0))
      (wpE_semWait_eq 𝒱₀ (c : Thread nD τ) none Set.univ) (Set.mem_univ _) () (O := tallyAt (cell (mate c) 2) () quantum) (W := W) (R := 0) (m := 0) (T := ∅)
      ((Nat.zero_add _).trans (plan_expect m c 0).symm)) $$ [C0 HO A0]
  · isplitr; · iexact I0
    isplitl [C0]; · iexact C0
    isplitl [HO]; · iexact HO
    isplitr; · iapply (gate_waits c); iexact Hlev
    iexact A0
  iintro ⟨HO, A0, -, Hpay⟩
  ihave Hq := (Entails.of_eq ((plan_rest m c 0).trans (brings_gate m c))) $$ Hpay
  icases Hq with ⟨⟨%fn, Hn⟩, #RN⟩
  -- half of the partial sums is lent to the copy
  ihave Hpp := (show ((mine.access all4).loc (c : Thread nD τ) ↦{fullShare} k0_pay3 (xBlk m c) : sProp 𝕄) ⊢ _
    from (halves c cc0_scratch0 (part m c)).1) $$ Hp
  icases Hpp with ⟨HpL, HpR⟩
  iapply (send m K c _ (copiedTo c) fn (insert (spot 0, ()) W)) $$ [HpL Hn HO D1 D2]
  · isplitr; · iexact I1
    isplitr; · iexact J2
    isplitl [HpL]; · iexact HpL
    isplitl [Hn]; · iexact Hn
    isplitl [HO]; · iexact HO
    isplitl [D1]; · iexact D1
    isplitr; · iexact R1
    isplitl [D2]; · iexact D2
    iexact RN
  iintro ⟨C1, HO⟩
  iapply (wp_load 𝒱₀ (c : Thread nD τ) none Set.univ (m := Memref.whole cc0_stg1_0) (Finset.subset_univ _)) $$ Hg; iintro Hg
  rw [load_g]
  -- the partner's partial sums arrive
  iapply (Rounds.wp_wait_rest_token 𝒱₀ eEx (plan m) (c : Thread nD τ) none (sm := spot 2) (κ := K (cell c 2))
      (wpE_waitDma2_eq 𝒱₀ (c : Thread nD τ) none Set.univ) (Set.mem_univ _) () (O := 0) (W := insert (spot 0, ()) W) (R := 0) (m := 0) (T := ∅)
      ((Nat.zero_add _).trans (plan_expect m c 2).symm)) $$ [C2 HO A2]
  · isplitr; · iexact I2
    isplitl [C2]; · iexact C2
    isplitl [HO]; · iexact HO
    isplitr; · rw [MayWait_zero]; iempintro
    iexact A2
  iintro ⟨HO, A2, -, Hpay⟩
  ihave Hl := (Entails.of_eq ((plan_rest m c 2).trans (brings_in m c))) $$ Hpay
  iapply (wp_load 𝒱₀ (c : Thread nD τ) none Set.univ (m := mine) (Finset.subset_univ _)) $$ HpR; iintro HpR
  rw [load_mine]
  iapply (wp_load 𝒱₀ (c : Thread nD τ) none Set.univ (m := theirs) (Finset.subset_univ _)) $$ Hl; iintro Hl
  rw [load_theirs]
  iapply (wp_load 𝒱₀ (c : Thread nD τ) none Set.univ (m := Memref.whole cc0_stg2_0) (Finset.subset_univ _)) $$ Ho; iintro Ho
  iapply (wp_store 𝒱₀ (c : Thread nD τ) none Set.univ (m := Memref.whole cc0_stg2_0) (r := all5) (Mk := Finset.univ) (Finset.subset_univ _)) $$ Ho; iintro Ho
  rw [store_out]
  -- one's own copy is over: the lent half is back
  iapply (Rounds.wp_wait_rest_token 𝒱₀ eEx (plan m) (c : Thread nD τ) none (sm := spot 1) (κ := K (cell c 1))
      (wpE_waitDma2_eq (src := theirs) (dst := mine) 𝒱₀ (c : Thread nD τ) none Set.univ) (Set.mem_univ _) () (O := 0) (W := insert (spot 2, ()) (insert (spot 0, ()) W)) (R := 0) (m := 0) (T := ∅)
      ((Nat.zero_add _).trans (same_quantum.trans (plan_expect m c 1).symm))) $$ [C1 HO A1]
  · isplitr; · iexact I1
    isplitl [C1]; · rw [same_quantum]; iexact C1
    isplitl [HO]; · iexact HO
    isplitr; · rw [MayWait_zero]; iempintro
    iexact A1
  iintro ⟨HO, A1, -, Hpay⟩
  ihave HpL := (Entails.of_eq ((plan_rest m c 1).trans (brings_out m c))) $$ Hpay
  rw [wp_ret]
  imod (retire m (K (cell c 0)) (cell c 0)) $$ [A0] with Z0
  · isplitr; · iexact I0
    iexact A0
  imod (retire m (K (cell c 1)) (cell c 1)) $$ [A1] with Z1
  · isplitr; · iexact I1
    iexact A1
  imod (retire m (K (cell c 2)) (cell c 2)) $$ [A2] with Z2
  · isplitr; · iexact I2
    iexact A2
  imodintro
  iapply Hk
  unfold afterwards
  isplitl [Z0]; · iexact Z0
  isplitl [Z1 Z2]; · isplitl [Z1] <;> iassumption
  isplitl [HpL HpR Hl]
  · isplitr [Hl]
    · iexists (part m c)
      iapply (halves c cc0_scratch0 (part m c)).2
      isplitl [HpL] <;> iassumption
    · iexists _; iexact Hl
  isplitl [Hx]; · iexact Hx
  isplitl [Hg]; · iexact Hg
  isplitl [Ho]; · iexact Ho
  iexists _; iexact HO

end Cert.KernelIdeal.Exchange

end
-- ==== Proof.Region.lean ====
/-
  The pallas_call as a region that talks: its proof data, the obligation its body meets, and the arrays it leaves.
-/
module

public import proofs.«01_k».proof.Proof.Body
public import Idealize.ShloMosaic.Lib.Pipeline.FrameTail

@[expose] public section

noncomputable section

namespace Cert.KernelIdeal.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ Two ℕ

variable (m : (ℓ : Loc nD τ sig) → Buf (Elt F) ℓ)

/-! ## The proof data -/

/-- The two scratch buffers, contents not stated. -/
abbrev scraps (c : Dev nD) : sProp 𝕄 := iprop(some_ c cc0_scratch0 ∗ some_ c cc0_scratch1)

/-- What device `c` brings from the launch to the region. -/
def ticket (c : Dev nD) : sProp 𝕄 := iprop((∃ K, sealed m K c) ∗ purse c)

/-- The same once its copy semaphores are open, with the level facts. -/
def entered (c : Dev nD) : sProp 𝕄 := iprop((∃ K, unsealed m K c) ∗ purse c ∗ levAts labels level)

/-- The semaphores of the exchange the region itself holds. -/
abbrev private_ : Fin 2 → SemLoc sig := fun k => spot k.succ

theorem private_eq (c : Dev nD) : (Pipeline.ownSems0 private_ c : sProp 𝕄) = iprop(semVal (cell c 1) 0 ∗ semVal (cell c 2) 0) :=
  BI.bigSep_fin_two (fun k : Fin 2 => (semVal ((c : Thread nD τ), private_ k) 0 : sProp 𝕄))

/-- Before the one grid point: the exchange entered, the debt outstanding. After: the counters at zero, nothing owed. -/
def dat (c : Dev nD) : Dat τ (Elt F) Unit ℕ Two ℕ cfg0 c where
  A w := V m c (Pipeline.arrRef spec0 w)
  after w t := match w with
    | 0 => iblk m c 0 t
    | 1 => iblk m c 1 t
    | 2 => made m c
    | ⟨_ + 3, h⟩ => absurd h (Nat.not_lt.2 (Nat.le_add_left _ _))
  Φ t := if t.val = 0 then iprop(entered m c ∗ scraps c ∗ ∃ r, prngReg c r)
    else iprop(semVal (cell c 0) 0 ∗ (semVal (cell c 1) 0 ∗ semVal (cell c 2) 0) ∗ scraps c ∗ ∃ r, prngReg c r)
  q _ := fullShare
  owed t := if t.val = 0 then debt c else 0

abbrev adm : (p : Fin 1) → (pcfgs (F := F) p).Adm := fun p => (cfgs p).toPCfg_adm

def dats (_ : Fin 1) (c : Dev nD) : Dat τ (Elt F) Unit ℕ Two ℕ cfg0 c := dat m c

abbrev pdats : (p : Fin 1) → (c : Dev nD) → Dat τ (Elt F) Unit ℕ Two ℕ (Pipeline.pin (pcfgs (F := F)) adm p) c := dats m

theorem before_x (c : Dev nD) (t : Fin cfg0.N) (d) : (dat m c).before 0 t d = iblk m c 0 t := by
  unfold Dat.before; rw [if_pos (fetch0_0 t)]; rfl
theorem before_g (c : Dev nD) (t : Fin cfg0.N) (d) : (dat m c).before 1 t d = iblk m c 1 t := by
  unfold Dat.before; rw [if_pos (fetch0_1 t)]; rfl

theorem owes_in {c : Dev nD} (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

theorem owes_out {c : Dev nD} (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound; rw [h]
  iintro ⟨%W, HO⟩; iexists W
  isplitr; · ipureintro; exact fun _ _ => Or.inl trivial
  iexact HO

theorem owns_eq (c : Dev nD) (b : Ref sig .tc) (X : b.ty.Contents (Elt F)) :
    (owns (Ix := Unit) (Name := ℕ) (U := Two) (Lvl := ℕ) (c : Thread nD τ) (Memref.whole b) fullShare X : sProp 𝕄)
      = iprop(∃ f : Buf (Elt F) ((c : Thread nD τ).loc b), ⌜f = X⌝ ∗ at_ c b fullShare f) := by
  unfold owns; simp only [Memref.view_whole, View.read_whole, View.set_whole]

/-! ## The body's obligation -/

/-- What the obligation asks the body to leave. -/
def left (c : Dev nD) : sProp 𝕄 :=
  iprop((semVal (cell c 0) 0 ∗ (semVal (cell c 1) 0 ∗ semVal (cell c 2) 0) ∗ scraps c ∗ ∃ r, prngReg c r)
    ∗ (dat m c).owesAt () t0_0.succ
    ∗ (∃ f : Buf (Elt F) ((c : Thread nD τ).loc cc0_stg0_0), ⌜f = xBlk m c⌝ ∗ at_ c cc0_stg0_0 fullShare f)
    ∗ (∃ f : Buf (Elt F) ((c : Thread nD τ).loc cc0_stg1_0), ⌜f = gBlk m c⌝ ∗ at_ c cc0_stg1_0 fullShare f)
    ∗ (∃ f : Buf (Elt F) ((c : Thread nD τ).loc cc0_stg2_0), ⌜f = made m c⌝ ∗ at_ c cc0_stg2_0 fullShare f))

theorem obligation (c : Dev nD) : BodyObligation (dat m c) (defs₀ (F := F)) 𝒱₀ () Set.univ := fun t => by
  rw [fin_N0 t]
  rw [bigSep_W0, bigSep_W0]
  simp only [owns_eq]
  show iprop((entered m c ∗ scraps c ∗ ∃ r, prngReg c r) ∗ (dat m c).owesAt () t0_0.castSucc
      ∗ (∃ d, ∃ f : Buf (Elt F) ((c : Thread nD τ).loc cc0_stg0_0), ⌜f = (dat m c).before 0 t0_0 d⌝ ∗ at_ c cc0_stg0_0 fullShare f)
      ∗ (∃ d, ∃ f : Buf (Elt F) ((c : Thread nD τ).loc cc0_stg1_0), ⌜f = (dat m c).before 1 t0_0 d⌝ ∗ at_ c cc0_stg1_0 fullShare f)
      ∗ (∃ d, ∃ f : Buf (Elt F) ((c : Thread nD τ).loc cc0_stg2_0), ⌜f = (dat m c).before 2 t0_0 d⌝ ∗ at_ c cc0_stg2_0 fullShare f))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3) (fun _ => left m c)
  unfold entered
  iintro ⟨⟨⟨⟨%K, Hk⟩, Hpu, Hlev⟩, Hs, Hr⟩, HO, ⟨%d0, %f0, %e0, H0⟩, ⟨%d1, %f1, %e1, H1⟩, ⟨%d2, %f2, -, H2⟩⟩
  rw [before_x] at e0; subst e0
  rw [before_g] at e1; subst e1
  ihave HO' := (owes_in m t0_0.castSucc (debt c) rfl) $$ HO
  icases HO' with ⟨%W, HO⟩
  iapply (body_run m K c W fun _ => left m c)
  isplitr [Hr]
  · unfold before
    isplitl [Hk]; · iexact Hk
    isplitl [Hpu]; · iexact Hpu
    isplitl [Hlev]; · iexact Hlev
    isplitl [Hs]; · iexact Hs
    isplitl [H0]; · iexact H0
    isplitl [H1]; · iexact H1
    isplitl [H2]; · iexists f2; iexact H2
    iexact HO
  unfold afterwards left
  iintro ⟨Z0, Z, Hs, H0, H1, H2, HO⟩
  isplitl [Z0 Z Hs Hr]
  · isplitl [Z0]; · iexact Z0
    isplitl [Z]; · iexact Z
    isplitl [Hs] <;> iassumption
  isplitl [HO]; · iapply (owes_out m t0_0.succ 0 rfl); iexact HO
  isplitl [H0]
  · iexists _; isplitr; · (ipureintro; rfl)
    iexact H0
  isplitl [H1]
  · iexists _; isplitr; · (ipureintro; rfl)
    iexact H1
  iexists _; isplitr; · (ipureintro; rfl)
  iexact H2

/-! ## The arrays -/

/-- Device `c`'s buffers as launched. -/
abbrev atLaunch (c : Dev nD) : Valuation τ sig (Elt F) := fun b => m (c, b)
/-- As the region finds them. -/
abbrev atEntry (c : Dev nD) : Valuation τ sig (Elt F) := StableHlo.after hostOps0 (atLaunch m c)
/-- As the region leaves them. -/
abbrev atExit (c : Dev nD) : Valuation τ sig (Elt F) := Pipeline.afterRegion (dat m c) (atEntry m c)

/-- The result's block is all of its array. -/
theorem read_result (c : Dev nD) (f : Buf (Elt F) ((c : Thread nD τ).loc main_v2)) : (win0_2.blk t0_0).view.read (Elt F) f = f :=
  Memref.read_access_unit_zero (Elt F) main_v2
    (show (fun a => (win0_2.index t0_0) a * main_v2.ty.shape.size a) = fun _ => 0 from funext fun a => by fin_cases a <;> decide)
    (fun a => by fin_cases a <;> decide) f

/-- After the region the result array holds what the body made. -/
theorem arr_result (c : Dev nD) : (dat m c).arrAt 2 cfg0.N = made m c := by
  have hw : ((cfg0.win 2).blk t0_0).view.read (Elt F) ((dat m c).arrAt 2 cfg0.N) = (dat m c).flushed 2 t0_0 := by
    rw [show cfg0.N = t0_0.val + 1 from rfl, (dat m c).arrAt_succ (2 : Fin 3) t0_0, flush0_2, if_pos rfl]
    exact View.read_write_univ _ _
  exact (read_result c _).symm.trans hw

theorem exit_result (c : Dev nD) : atExit m c (Proc.devRef .tc main_v2) = made m c :=
  (Pipeline.afterRegion_arr (dat m c) (atEntry m c) winFacts0.arr_inj 2).trans (arr_result m c)

theorem exit_x (c : Dev nD) : atExit m c (Proc.devRef .tc main_arg0) = m ((c : Thread nD τ).loc main_arg0) :=
  (Pipeline.afterRegion_arr (dat m c) (atEntry m c) winFacts0.arr_inj 0).trans
    (((dat m c).arrAt_in 0 rfl _).trans (V_main_arg0 m c))

theorem exit_gamma (c : Dev nD) : atExit m c (Proc.devRef .tc main_arg1) = m ((c : Thread nD τ).loc main_arg1) :=
  (Pipeline.afterRegion_of_not_arr (dat m c) (atEntry m c) (b := main_arg1) (by decide)).trans (V_main_arg1 m c)

/-! ## The region -/

/-- The buffers of `@main` that are no window's array. -/
abbrev others : Finset (DevRef τ sig) := Pipeline.ucRefs τ sig \ Pipeline.arrRefs (τ := τ) spec0

theorem arrays_among : Pipeline.arrRefs (τ := τ) spec0 ⊆ Pipeline.ucRefs τ sig := Pipeline.arrRefs_sub_ucRefs spec0 (by decide)

theorem others_kept (c : Dev nD) : ∀ b ∈ others \ ∅, atExit m c b = atEntry m c b := fun b hb => by
  rw [Finset.sdiff_empty, Finset.mem_sdiff] at hb
  obtain ⟨hb, ha⟩ := hb
  obtain ⟨r, -, rfl⟩ := Finset.mem_map.mp (Finset.mem_filter.mp hb).1
  exact Pipeline.afterRegion_of_not_arr (dat m c) (atEntry m c) fun w h =>
    ha (Finset.mem_map.mpr ⟨r, Finset.mem_image.mpr ⟨w, Finset.mem_univ _, h.symm⟩, rfl⟩)

theorem opening (c : Dev nD) : iprop(ticket m c ∗ Pipeline.ownSems0 private_ c ∗ levAts labels level) ⊢ (|={Set.univ}=> entered m c : sProp 𝕄) := by
  rw [private_eq]
  unfold ticket entered sealed unsealed known
  iintro ⟨⟨⟨%K, ⟨⟨#I0, #I1, #I2⟩, #J0, #J2⟩, A0, ⟨O1, O2⟩, #R0, HD⟩, Hpu⟩, ⟨Z1, Z2⟩, Hlev⟩
  imod (Rounds.cell_open eEx (plan m) (g := cell c 1) (Set.mem_univ (K (cell c 1)))) $$ [O1 Z1] with ⟨A1, #R1⟩
  · isplitr; · iexact I1
    isplitl [O1] <;> iassumption
  imod (Rounds.cell_open eEx (plan m) (g := cell c 2) (Set.mem_univ (K (cell c 2)))) $$ [O2 Z2] with ⟨A2, #R2⟩
  · isplitr; · iexact I2
    isplitl [O2] <;> iassumption
  imodintro
  isplitr [Hpu Hlev]
  · iexists K
    isplitr
    · isplitr
      · isplitr; · iexact I0
        isplitr; · iexact I1
        iexact I2
      isplitr; · iexact J0
      iexact J2
    isplitl [A0 A1 A2]
    · isplitl [A0]; · iexact A0
      isplitl [A1] <;> iassumption
    isplitr
    · isplitr; · iexact R0
      isplitr; · iexact R1
      iexact R2
    iexact HD
  isplitl [Hpu] <;> iassumption

theorem nothing_held (c : Dev nD) (W : Valuation τ sig (Elt F)) : (StableHlo.held (c.tc : Thread nD τ) ∅ W : sProp 𝕄) = BI.emp := by
  unfold StableHlo.held; exact BI.bigSep_empty

theorem going_in (c : Dev nD) :
    iprop(Pipeline.scopedRest (Pipeline.pin (pcfgs (F := F)) adm 0).spec c ∗ (∃ r, prngReg c r) ∗ StableHlo.held (c.tc : Thread nD τ) ∅ (atEntry m c) ∗ entered m c)
      ⊢ (pdats m 0 c).Φ 0 := by
  rw [show (pdats m 0 c).Φ 0 = iprop(entered m c ∗ scraps c ∗ ∃ r, prngReg c r) from rfl,
    show (Pipeline.scopedRest (Pipeline.pin (pcfgs (F := F)) adm 0).spec c : sProp 𝕄) = scraps c from scopedRest0_eq c]
  iintro ⟨Hs, Hp, -, HE⟩
  isplitl [HE]; · iexact HE
  isplitl [Hs] <;> iassumption

theorem coming_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (atExit m c)
      ∗ Pipeline.ownSems0 private_ c ∗ semVal (cell c 0) 0) := by
  rw [show (pdats m 0 c).Φ (Fin.last _) = iprop(semVal (cell c 0) 0 ∗ (semVal (cell c 1) 0 ∗ semVal (cell c 2) 0) ∗ scraps c ∗ ∃ r, prngReg c r) from rfl,
    show (Pipeline.scopedRest (Pipeline.pin (pcfgs (F := F)) adm 0).spec c : sProp 𝕄) = scraps c from scopedRest0_eq c, private_eq, nothing_held]
  iintro ⟨Z0, Z, Hs, Hp⟩
  isplitl [Hs]; · iexact Hs
  isplitl [Hp]; · iexact Hp
  isplitr; · iempintro
  isplitl [Z] <;> iassumption

theorem owing_first (c : Dev nD) : (pdats (F := F) m 0 c).owed 0 = debt c := rfl
theorem owing_last (c : Dev nD) : (pdats (F := F) m 0 c).owed (Fin.last _) = 0 := rfl

/-- What is owed lies above the staging semaphores' level. -/
theorem in_order : Pipeline.LevelCutOwed (pcfgs (F := F)) adm (pdats m) () labels level 0 fun _ => 0 where
  hι c w s := labels_tc _ _
  hιb c w s := by
    have h : ∀ (w : Fin 3) (s : Fin (win0 w).nbuf), kind (.dma ((win0 w).sem s)) = none := by decide
    show level ((c : Thread nD τ), .dma ((win0 w).sem s)) () ≤ 0
    unfold level; rw [h]
  hD c t g u h := by
    cases u
    rw [show (pdats (F := F) m 0 c).owed t = if t.val = 0 then debt c else 0 from rfl] at h
    split at h
    · rcases debt_pos h with rfl | rfl
      · exact ⟨labels_tc _ _, by rw [level_cell]; decide⟩
      · exact ⟨labels_tc _ _, by rw [level_cell]; decide⟩
    · exact absurd h (Nat.lt_irrefl 0)

set_option backward.isDefEq.respectTransparency.types false in
def talk : Pipeline.RegionSeg (pcfgs (F := F)) adm (pdats m) () defs₀ 𝒱₀ labels level 0 :=
  Pipeline.RegionSeg.ofTalk (pcfgs (F := F)) adm (pdats m) () defs₀ 𝒱₀ labels level 0 private_ (by decide : Pipeline.OwnSemFacts spec0 private_)
    ∅ others (Finset.empty_subset _) launch0.toP rfl (fun c => (obligation m c).loose)
    (fun _ => 0) debt (fun c => (owing_first m c).trans (zero_add _).symm) (owing_last m) (fun _ => rfl)
    (fun c w => by unfold Dat.share; split <;> rfl)
    (atEntry m) (atExit m) (others_kept m)
    (ticket m) (fun c => semVal (cell c 0) 0) (entered m) (fun c => semVal (cell c 0) 0) (opening m) (going_in m) (coming_out m)
    (fun c => by iintro H; imodintro; iexact H)
    (fun _ => 0) (in_order m) (fun _ => iprop(emp))
    (fun c w => rfl) (fun c w => (Pipeline.afterRegion_arr (dat m c) (atEntry m c) winFacts0.arr_inj w).symm)

end Cert.KernelIdeal.Exchange

end
-- ==== Proof.Whole.lean ====
/-
  The whole run on the four devices: every semaphore's invariant set up at the launch, the tokens dealt to the devices that
  spend them, and the state every run ends in.
-/
module

public import proofs.«01_k».proof.Proof.Region
public import Idealize.ShloMosaic.Lib.Quiescent

@[expose] public section

noncomputable section

namespace Cert.KernelIdeal.Exchange

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ Two ℕ

variable (m : (ℓ : Loc nD τ sig) → Buf (Elt F) ℓ) (ρ : Dev nD → PrngReg)

/-! ## `@main` in segments -/

/-- What a device carries past the host operations: its ticket, its generator register, its debt. -/
def baggage (c : Dev nD) : sProp 𝕄 :=
  iprop(ticket m c ∗ (∃ r, prngReg c r) ∗ ∃ W, owes (c : Thread nD τ) (debt c) W)

/-- The reshape of `gamma`. -/
def prelude_ : Pipeline.HostSeg (Name := ℕ) (U := Two) (pcfgs (F := F)) defs₀ 𝒱₀ labels level :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atLaunch m) (baggage m)

def stretches : List (Pipeline.Seg (pcfgs (F := F)) adm (pdats m) () defs₀ 𝒱₀ labels level) := [.host (prelude_ m), .region (talk m)]

theorem main_eq (c : Dev nD) : main (F := F) c = Pipeline.Seg.run (stretches m) :=
  main_segs adm (pdats m) () 𝒱₀ labels level (prelude_ m) (talk m) rfl c

theorem held_split (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) others W) :=
  StableHlo.held_sub_split (c.tc : Thread nD τ) arrays_among W

theorem talk_pre (c : Dev nD) :
    iprop(StableHlo.held (c.tc : Thread nD τ) (Pipeline.ucRefs τ sig) (atEntry m c) ∗ baggage m c) ⊢ (talk m).pre c := by
  show _ ⊢ iprop(StableHlo.held (c.tc : Thread nD τ) (Pipeline.arrRefs (τ := τ) spec0) (atEntry m c) ∗ (∃ r, prngReg c r)
    ∗ (StableHlo.held (c.tc : Thread nD τ) others (atEntry m c) ∗ emp) ∗ ticket m c ∗ ∃ Wd, owes (c : Thread nD τ) (0 + debt c) Wd)
  rw [held_split, zero_add]
  unfold baggage
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

/-- What device `c` holds at the end: its buffers, and its gate at zero. -/
abbrev ending (c : Dev nD) : sProp 𝕄 :=
  iprop(StableHlo.held (c.tc : Thread nD τ) (Pipeline.ucRefs τ sig) (atExit m c) ∗ semVal (cell c 0) 0)

theorem talk_post (c : Dev nD) :
    (talk m).post c ⊢ iprop(ending m c ∗ ∃ W, owes (c : Thread nD τ) (0 : CellTallies nD τ sig Unit) W) := by
  show iprop(StableHlo.held (c.tc : Thread nD τ) (Pipeline.arrRefs (τ := τ) spec0) (atExit m c) ∗ (∃ r, prngReg c r)
    ∗ (StableHlo.held (c.tc : Thread nD τ) others (atExit m c) ∗ emp) ∗ semVal (cell c 0) 0
    ∗ ∃ Wd, owes (c : Thread nD τ) (0 : CellTallies nD τ sig Unit) Wd) ⊢ _
  unfold ending
  rw [held_split]
  iintro ⟨Ha, -, ⟨Ho, -⟩, Hz, HO⟩
  isplitr [HO]
  · isplitl [Ha Ho]
    · isplitl [Ha] <;> iassumption
    iexact Hz
  iexact HO

/-! ## Cells and tokens -/

def gateEmb : Dev nD ↪ GSem nD τ sig := ⟨fun c => cell c 0, fun _ _ h => (cell_inj h).1⟩
def copyEmb : Dev nD × Fin 2 ↪ GSem nD τ sig :=
  ⟨fun p => cell p.1 p.2.succ, fun _ _ h => Prod.ext (cell_inj h).1 (Fin.succ_injective _ (cell_inj h).2)⟩
def tokEmb : Dev nD × Fin 3 ↪ GSem nD τ sig × ℕ × Unit :=
  ⟨fun p => (cell p.1 p.2, 0, ()), fun _ _ h => Prod.ext (cell_inj (congrArg Prod.fst h)).1 (cell_inj (congrArg Prod.fst h)).2⟩

/-- The gates, whose counters the launch hands over. -/
abbrev gates : Finset (GSem nD τ sig) := Finset.univ.map gateEmb
/-- The copy semaphores, whose counters come with the region. -/
abbrev copies : Finset (GSem nD τ sig) := Finset.univ.map copyEmb
abbrev tokens : Finset (GSem nD τ sig × ℕ × Unit) := Finset.univ.map tokEmb

theorem apart : Disjoint (gates : Finset (GSem nD τ sig)) copies := by
  rw [Finset.disjoint_left]
  rintro g h₁ h₂
  obtain ⟨c, -, rfl⟩ := Finset.mem_map.mp h₁
  obtain ⟨p, -, h⟩ := Finset.mem_map.mp h₂
  exact Fin.succ_ne_zero p.2 (cell_inj h).2

theorem gate_in (c : Dev nD) : cell c 0 ∈ (gates ∪ copies : Finset (GSem nD τ sig)) :=
  Finset.mem_union_left _ (Finset.mem_map_of_mem gateEmb (Finset.mem_univ c))
theorem copy_in (c : Dev nD) (k : Fin 2) : cell c k.succ ∈ (gates ∪ copies : Finset (GSem nD τ sig)) :=
  Finset.mem_union_right _ (Finset.mem_map_of_mem copyEmb (Finset.mem_univ (c, k)))

/-- The exchange's element at launch. -/
abbrev seed : UR sig nD τ := launchOf gates copies tokens

/-- The launch's element: the pipeline's, and the exchange's. -/
def u₀ : Two :=
  (initOf (Pipeline.cells (Pipeline.pin (pcfgs (F := F)) adm) (launch0.toP.cellOf_inj adm))
    (Pipeline.launchToks (Pipeline.pin (pcfgs (F := F)) adm) (launch0.toP.cellOf_inj adm)), seed)

/-- A resource counted as device 0's. -/
def keep (X : sProp 𝕄) (c : Dev nD) : sProp 𝕄 := if c = 0 then X else iprop(emp)

theorem kept (X : sProp 𝕄) : bigSep Finset.univ (keep X) = X := by
  have h : bigSep (Finset.univ.erase (0 : Dev nD)) (keep X) = (BI.emp : sProp 𝕄) :=
    (bigSep_congr (Ψ := fun _ => (BI.emp : sProp 𝕄)) fun c hc => if_neg (Finset.ne_of_mem_erase hc)).trans (BI.bigSep_emp_const _)
  rw [bigSep_univ_at _ (0 : Dev nD), h, show keep X 0 = X from if_pos rfl]
  exact BI.equiv_iff.mp sep_emp

/-! ## Dealing -/

/-- What every device may look up: the invariants under one naming, and that each gate is in its first round. -/
def ledger (κ : GSem nD τ sig → ℕ) : sProp 𝕄 :=
  iprop((bigSep (gates ∪ copies) fun g => cellInv eEx (plan m) (κ g) g) ∗ bigSep gates fun g => reached eEx g 0)

instance ledger_persistent (κ : GSem nD τ sig → ℕ) : BI.Persistent (ledger m κ) := by unfold ledger; infer_instance

/-- What device `c` alone gets. -/
def share_ (c : Dev nD) : sProp 𝕄 :=
  iprop(atPos eEx (cell c 0) 0 ∅ 0 ∗ (openTok eEx (cell c 1) ∗ openTok eEx (cell c 2)) ∗ dues c)

theorem looked_up (κ : GSem nD τ sig → ℕ) {g : GSem nD τ sig} (hg : g ∈ (gates ∪ copies : Finset (GSem nD τ sig))) :
    (bigSep (gates ∪ copies) fun g => (cellInv eEx (plan m) (κ g) g : sProp 𝕄)) ⊢ cellInv eEx (plan m) (κ g) g := bigSep_elim hg

theorem gate_first (c : Dev nD) : (bigSep gates fun g => (reached eEx g 0 : sProp 𝕄)) ⊢ reached eEx (cell c 0) 0 :=
  bigSep_elim (Finset.mem_map_of_mem gateEmb (Finset.mem_univ c))

theorem sealing (κ : GSem nD τ sig → ℕ) (c : Dev nD) : iprop(ledger m κ ∗ share_ c) ⊢ iprop(∃ K, sealed m K c) := by
  unfold ledger share_ sealed known
  iintro ⟨⟨#HI, #HR⟩, HA, HO, HD⟩
  iexists κ
  isplitr
  · isplitr
    · isplitr; · iapply (looked_up m κ (gate_in c)); iexact HI
      isplitr; · iapply (looked_up m κ (copy_in c 0)); iexact HI
      iapply (looked_up m κ (copy_in c 1)); iexact HI
    isplitr; · iapply (looked_up m κ (gate_in (mate c))); iexact HI
    iapply (looked_up m κ (copy_in (mate c) 1)); iexact HI
  isplitl [HA]; · iexact HA
  isplitl [HO]; · iexact HO
  isplitr; · iapply (gate_first (F := F) (mate c)); iexact HR
  iexact HD

theorem three (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ

/-- Each token goes to the device that spends it. -/
theorem tokens_dealt : bigSep tokens (fun x => (dutyTok eEx x.1 x.2.1 x.2.2 : sProp 𝕄)) ⊢ bigSep Finset.univ fun c : Dev nD => dues c := by
  unfold dues
  rw [bigSep_map, bigSep_univ_prod]
  rw [show (bigSep Finset.univ fun c : Dev nD => bigSep Finset.univ fun k : Fin 3 => (dutyTok eEx (tokEmb (c, k)).1 (tokEmb (c, k)).2.1 (tokEmb (c, k)).2.2 : sProp 𝕄)) = _ from
    bigSep_congr (Ψ := fun c : Dev nD => iprop(dutyTok eEx (cell c 0) 0 () ∗ dutyTok eEx (cell c 1) 0 () ∗ (dutyTok eEx (cell c 2) 0 () : sProp 𝕄)))
    fun c _ => three fun k : Fin 3 => (dutyTok eEx (cell c k) 0 () : sProp 𝕄)]
  rw [bigSep_sep', bigSep_sep', bigSep_sep', bigSep_sep', bigSep_univ_equiv mates (fun c : Dev nD => (dutyTok eEx (cell c 0) 0 () : sProp 𝕄)),
    bigSep_univ_equiv mates (fun c : Dev nD => (dutyTok eEx (cell c 2) 0 () : sProp 𝕄))]
  exact BI.Entails.refl _

/-! ## Credit -/

theorem tally_at (c d : Dev nD) (k l : Fin 3) (n : ℕ) :
    (tallyAt (cell d k) () n : CellTallies nD τ sig Unit) (cell c l) () = if d = c ∧ k = l then n else 0 := by
  rw [tallyAt_apply]
  by_cases h : d = c ∧ k = l
  · obtain ⟨rfl, rfl⟩ := h; simp
  · rw [if_neg h, if_neg fun e => h ((cell_inj e.1).imp Eq.symm Eq.symm)]

theorem owed_at (d c : Dev nD) (l : Fin 3) :
    debt d (cell c l) () = if d = mate c then (match l with | 0 => 1 | 1 => 0 | 2 => quantum) else 0 := by
  have e : mate d = c ↔ d = mate c := ⟨fun h => by rw [← h, mate_mate], fun h => by rw [h, mate_mate]⟩
  unfold debt
  rw [Pi.add_apply, Finsupp.add_apply, tally_at, tally_at]
  simp only [e]
  by_cases h : d = mate c
  · simp only [h, true_and, if_true]
    fin_cases l <;> rfl
  · simp only [h, false_and, if_false]

theorem credit_at (c : Dev nD) (l : Fin 3) :
    tallyOn (cell c l) (launchCredit (Pipeline.owing debt) 0 (cell c l))
      = (tallyAt (cell c l) () (match l with | 0 => 1 | 1 => 0 | 2 => quantum) : CellTallies nD τ sig Unit) := by
  unfold tallyAt
  refine congrArg _ (Finsupp.ext fun u => ?_)
  cases u
  rw [Pipeline.launchCredit_owing, Finsupp.single_eq_same, Finset.sum_congr rfl fun d _ => owed_at d c l, Finset.sum_ite_eq' Finset.univ (mate c),
    if_pos (Finset.mem_univ _)]

theorem purse_filled (c : Dev nD) : (Pipeline.launchCred debt c : sProp 𝕄) ⊢ purse c := by
  unfold Pipeline.launchCred purse
  rw [bigSep_univ_at _ (spot 0), credit_at c 0]
  refine sep_mono_right ?_
  rw [← credit_at c 2]
  exact bigSep_elim (Finset.mem_erase.mpr ⟨by decide, Finset.mem_univ _⟩)

/-! ## The launch -/

theorem gate_alone : ∀ s : SemLoc sig, s.isScoped .tc = false → s = spot 0 := by decide

theorem counters (c : Dev nD) : (unscopedSems0 c : sProp 𝕄) = semVal (cell c 0) 0 := by
  unfold unscopedSems0
  rw [show (Finset.univ.filter fun s : SemLoc sig => ¬ s.isScoped .tc) = {spot 0} from by decide, BI.bigSep_singleton]

abbrev beginning (c : Dev nD) : sProp 𝕄 :=
  iprop(StableHlo.held (c.tc : Thread nD τ) (Pipeline.ucRefs τ sig) (atLaunch m c) ∗ baggage m c)

/-- The launch's holdings beside the exchange's ghost state. -/
def plain (c : Dev nD) : sProp 𝕄 :=
  iprop(StableHlo.held (c.tc : Thread nD τ) (Pipeline.ucRefs τ sig) (atLaunch m c) ∗ purse c ∗ owes (c : Thread nD τ) (debt c) ∅ ∗ ∃ r, prngReg c r)

theorem begin_ (κ : GSem nD τ sig → ℕ) (c : Dev nD) : iprop(ledger m κ ∗ (share_ c ∗ plain m c)) ⊢ beginning m c := by
  unfold plain beginning baggage ticket
  iintro ⟨#HL, Hs, Hh, Hpu, HO, Hp⟩
  isplitl [Hh]; · iexact Hh
  isplitl [Hs Hpu]
  · isplitl [Hs]
    · iapply (sealing m κ c)
      isplitr; · iexact HL
      iexact Hs
    iexact Hpu
  isplitl [Hp]; · iexact Hp
  iexists ∅; iexact HO

/-- What the launch hands device `c`. -/
abbrev handed (c : Dev nD) : sProp 𝕄 :=
  iprop(unscopedBufs c (fun b => m ((c.tc : Thread nD τ).loc b)) ∗ unscopedSems0 c
    ∗ owes (c.tc : Thread nD τ) (debt c) ∅ ∗ Pipeline.launchCred debt c ∗ prngReg c (ρ c) ∗ keep (BI.own (eEx seed)) c)

theorem sorted (c : Dev nD) : handed m ρ c ⊢ (iprop(plain m c ∗ (semVal (cell c 0) 0 ∗ keep (BI.own (eEx seed)) c)) : sProp 𝕄) := by
  unfold handed plain
  rw [show unscopedBufs c (fun b => m ((c.tc : Thread nD τ).loc b)) = StableHlo.held (c.tc : Thread nD τ) (Pipeline.ucRefs τ sig) (atLaunch m c)
      from Pipeline.unscopedBufs_held (Ix := Unit) (Name := ℕ) (U := Two) (Lvl := ℕ) c (atLaunch m c), counters]
  iintro ⟨Hh, Hz, HO, Hcr, Hp, Hk⟩
  isplitr [Hz Hk]
  · isplitl [Hh]; · iexact Hh
    isplitl [Hcr]; · iapply (purse_filled (F := F) c) $$ Hcr
    isplitl [HO]; · iexact HO
    iexists (ρ c); iexact Hp
  isplitl [Hz] <;> iassumption

theorem start : iprop((bigSep Finset.univ fun c : Dev nD => handed m ρ c) ∗ levAts labels level)
    ⊢ (|={Set.univ}=> bigSep Finset.univ (beginning m) : sProp 𝕄) := by
  have hv : bigSep Finset.univ (fun c : Dev nD => (semVal (cell c 0) 0 : sProp 𝕄)) ⊢ bigSep gates (fun g => (semVal g 0 : sProp 𝕄)) :=
    Entails.of_eq (bigSep_map (s := Finset.univ) gateEmb (Φ := fun g : GSem nD τ sig => (semVal g 0 : sProp 𝕄))).symm
  have ha : bigSep gates (fun g => (atPos eEx g 0 ∅ 0 : sProp 𝕄)) ⊢ bigSep Finset.univ (fun c : Dev nD => (atPos eEx (cell c 0) 0 ∅ 0 : sProp 𝕄)) :=
    Entails.of_eq (bigSep_map (s := Finset.univ) gateEmb (Φ := fun g : GSem nD τ sig => (atPos eEx g 0 ∅ 0 : sProp 𝕄)))
  have ho : bigSep copies (fun g => (openTok eEx g : sProp 𝕄))
      ⊢ bigSep Finset.univ (fun c : Dev nD => iprop(openTok eEx (cell c 1) ∗ openTok eEx (cell c 2))) :=
    Entails.of_eq (by
      rw [bigSep_map, bigSep_univ_prod]
      exact bigSep_congr fun c _ => BI.bigSep_fin_two (fun k : Fin 2 => (openTok eEx (cell c k.succ) : sProp 𝕄)))
  iintro ⟨H, -⟩
  ihave H' := (show (bigSep Finset.univ fun c : Dev nD => handed m ρ c)
      ⊢ (bigSep Finset.univ fun c : Dev nD => iprop(plain m c ∗ (semVal (cell c 0) 0 ∗ keep (BI.own (eEx seed)) c)) : sProp 𝕄)
    from bigSep_mono fun c _ => sorted m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (keep (F := F) (BI.own (eEx seed))) ⊢ BI.own (eEx seed) from Entails.of_eq (kept (F := F) _)) $$ HG
  imod (Rounds.fund_launch eEx (plan m) apart (fun g _ h => h) tokens) $$ [Hv Hu] with ⟨%κ, -, #Hinv, #Hr, Hat, Hopen, Htok⟩
  · isplitl [Hv]
    · iapply hv $$ Hv
    · iexact Hu
  imodintro
  iapply (bigSep_with_persistent (R := ledger m κ) (Φ := fun c => iprop(share_ c ∗ plain m c)) fun c _ => begin_ m κ c)
  isplitr
  · unfold ledger
    isplitr; · iexact Hinv
    iexact Hr
  iapply (Entails.of_eq (bigSep_sep' _ _ _).symm)
  isplitr [HB]
  · unfold share_
    iapply (Entails.of_eq (bigSep_sep' _ _ _).symm); isplitl [Hat]; · iapply ha $$ Hat
    iapply (Entails.of_eq (bigSep_sep' _ _ _).symm); isplitl [Hopen]; · iapply ho $$ Hopen
    iapply (tokens_dealt (F := F)) $$ Htok
  · iexact HB

/-! ## The run -/

set_option backward.isDefEq.respectTransparency.types false in
/-- Every run of the four devices ends, with both arguments as they were, the result array holding what each device made of
    its own blocks and its partner's partial sums, and every counter at zero. -/
theorem run : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = made m c) ∧ r.2.sem = fun _ => 0) :=
  Pipeline.θ_run_regions_kit_sems (pcfgs (F := F)) adm (pdats m) () (launch0.toP.cellOf_inj adm) ePipe defs₀ 𝒱₀ labels level m ρ main (stretches m)
    (fun c Q => by rw [main_eq m c])
    (by simp only [stretches, Pipeline.Seg.pipes_host, Pipeline.Seg.pipes_region, Pipeline.Seg.pipes_nil]; decide)
    (O₀ := debt) (hL := labels_off) (G := keep (BI.own (eEx seed))) (u₀ := u₀)
    (hu₀ := by
      unfold u₀
      iintro Hu
      ihave H := (ownU_pair _ _) $$ Hu
      icases H with ⟨HP, HX⟩
      imodintro
      isplitl [HP]; · iexact HP
      rw [kept]; iexact HX)
    (T₀ := beginning m) (Tₙ := ending m)
    (hch := ⟨fun c => .rfl, fun c => talk_pre m c, fun c => talk_post m c⟩)
    (hinit := start m ρ)
    (QY := fun c s => (∀ b ∈ Pipeline.ucRefs τ sig, s.mem ((c.tc : Thread nD τ).1, b) = atExit m c b) ∧ s.sem (cell c 0) = 0)
    (hfin := fun c s' => by
      unfold ending StableHlo.held
      iintro ⟨⟨Hh, Hz⟩, HSI⟩
      icombine HSI Hz gives %hz
      ihave H := (pointsTo_read_all (Pipeline.ucRefs τ sig) (fun b => ((c.tc : Thread nD τ).1, b)) (atExit m c) s') $$ [Hh HSI]
      · isplitl [Hh] <;> iassumption
      icases H with ⟨%hm, HSI⟩
      imodintro
      isplitr
      · ipureintro; exact ⟨hm, by simpa using hz⟩
      iexact HSI)
    (hQ := fun s h hs => ⟨fun c =>
        ⟨((h c).1 _ (Pipeline.devRef_mem_ucRefs (by rfl))).trans (exit_x m c), ((h c).1 _ (Pipeline.devRef_mem_ucRefs (by rfl))).trans (exit_gamma m c),
          ((h c).1 _ (Pipeline.devRef_mem_ucRefs (by rfl))).trans (exit_result m c)⟩,
      sem_eq_zero hs fun c s hs => by
        obtain rfl := gate_alone s hs
        exact (h c).2⟩)

end Cert.KernelIdeal.Exchange

end
-- ==== Proof.Scale.lean ====
/-
  The arithmetic of a normalised row over the extended reals: squares are not negative, a sum over a row is the sum over
  its two halves, dividing by 512 is multiplying by its inverse, and dividing by a positive number's root is
  multiplying by the inverse root.
-/
module

public import Idealize.ShloMosaic.PureOps.Ideal

@[expose] public section

noncomputable section

namespace Cert.Scale

open Idealize.ShloMosaic

/-- The reference's row length, 512. -/
theorem word_length : Ideal.ofBits .f32 0x44000000#32 = ((512 : ℝ) : EReal) := by
  simp [Ideal.ofBits, Ideal.ieee, -EReal.coe_mul]; norm_num

/-- The kernel's factor, 1/512. -/
theorem word_inverse : Ideal.ofBits .f32 0x3B000000#32 = ((1 / 512 : ℝ) : EReal) := by
  simp [Ideal.ofBits, Ideal.ieee, -EReal.coe_mul]; norm_num

/-- What both add to the mean square is positive. -/
theorem word_small : 0 < Ideal.ofBits .f32 0x3727C5AC#32 := by
  simp [Ideal.ofBits, Ideal.ieee, -EReal.coe_mul]

/-- A square is not negative, infinite or not. -/
theorem square_nonneg (x : EReal) : 0 ≤ x * x := by
  rcases le_total 0 x with h | h
  · exact mul_nonneg h h
  · exact EReal.mul_nonneg_iff.mpr (Or.inr ⟨h, h⟩)

/-- The mean over 512, by division and by multiplication. -/
theorem mean_eq (t : EReal) : Ideal.div t ((512 : ℝ) : EReal) = t * ((1 / 512 : ℝ) : EReal) := Ideal.div_coe (by norm_num) t

/-- Dividing by the root of a positive number is multiplying by its inverse root. -/
theorem div_sqrt (a : EReal) {s : EReal} (hs : 0 < s) : Ideal.div a (Ideal.sqrt s) = a * Ideal.rsqrt s := by
  induction s with
  | bot => exact absurd hs (by simp)
  | top => rw [Ideal.sqrt_top, Ideal.rsqrt_top, Ideal.div, if_neg (by simp), EReal.inv_top]
  | coe r =>
    have hr : 0 < r := by exact_mod_cast hs
    rw [Ideal.sqrt_coe, Ideal.rsqrt_coe, if_neg hr.le.not_gt, if_neg hr.le.not_gt, if_neg hr.ne',
      Ideal.div_coe (Real.sqrt_pos.mpr hr).ne', one_div]

/-- The sum over a row of 512 is the sum over its halves. -/
theorem sum_halves (f : Fin 512 → EReal) :
    ∑ k, f k = (∑ k : Fin 256, f ⟨k.val, by omega⟩) + ∑ k : Fin 256, f ⟨256 + k.val, by omega⟩ :=
  Fin.sum_univ_add (a := 256) (b := 256) f

/-- The shifted mean square is positive. -/
theorem positive (f : Fin 512 → EReal) :
    0 < (∑ k, f k * f k) * ((1 / 512 : ℝ) : EReal) + Ideal.ofBits .f32 0x3727C5AC#32 := by
  have h : 0 ≤ (∑ k, f k * f k) * ((1 / 512 : ℝ) : EReal) :=
    mul_nonneg (Finset.sum_nonneg fun k _ => square_nonneg (f k)) (by exact_mod_cast (by norm_num : (0 : ℝ) ≤ 1 / 512))
  exact lt_of_lt_of_le word_small (le_add_of_nonneg_left h)

end Cert.Scale

end
-- ==== Proof.Rows.lean ====
/-
  Both programs read element by element: what a device's body makes of its blocks and its partner's, and what the
  reference makes of the whole arrays.
-/
module

public import proofs.«01_k».proof.Proof.Gen.KernelIdeal.Skeleton
public import proofs.«01_k».proof.Proof.Gen.ReferenceIdeal
public import Idealize.ShloMosaic.Lib.Pointwise
public import proofs.«01_k».proof.Proof.Scale

@[expose] public section

noncomputable section

namespace Cert.Rows

open Idealize.ShloMosaic

section Kernel
open Cert.KernelIdeal Cert.KernelIdeal.Gen

/-- A device's partial sums, at a row split as 4 by 128. -/
theorem partial_at (x : Vec Ideal S512x256 .f32) (a : Fin 4) (b : Fin 128) :
    k0_pay3 x (ix2 a b) = ∑ k : Fin 256, x (ix2 ⟨a.val * 128 + b.val, by omega⟩ k) * x (ix2 ⟨a.val * 128 + b.val, by omega⟩ k) := by
  pointwise [k0_pay3, k0_pay2]

/-- What a device makes of its block, `gamma`'s block and two buffers of partial sums. -/
theorem made_at (x : Vec Ideal S512x256 .f32) (g : Vec Ideal S1x256 .f32) (p q : Vec Ideal S4x128 .f32) (r : Fin 512) (l : Fin 256) :
    k0_pay1 (k0_pay4 x g) p q (ix2 r l)
      = x (ix2 r l) * g (ix2 0 l)
        * Ideal.rsqrt ((p (ix2 ⟨r.val / 128, by omega⟩ ⟨r.val % 128, by omega⟩) + q (ix2 ⟨r.val / 128, by omega⟩ ⟨r.val % 128, by omega⟩))
            * Ideal.ofBits .f32 0x3B000000#32 + Ideal.ofBits .f32 0x3727C5AC#32) := by
  pointwise [k0_pay1, k0_pay4, k0_pay2]

end Kernel

section Reference
open Cert.ReferenceIdeal Cert.ReferenceIdeal.Gen Idealize.ShloMosaic.StableHlo

/-- The reference's result, as a function of its two arguments. -/
def whole (x : FVec Ideal S1024x512 .f32) (g : FVec Ideal S512 .f32) : FVec Ideal S1024x512 .bf16 :=
  truncf .bf16 (Host.divf (mulf (broadcastInDim S1024x512 ![0, 1] bcast_S1x512_S1024x512_0_1 (broadcastInDim S1x512 ![1] bcast_S512_S1x512_1 g)) x)
    (broadcastInDim S1024x512 ![0, 1] bcast_S1024x1_S1024x512_0_1
      (Host.sqrt (addf (Host.divf (broadcastInDim S1024x1 ![0] bcast_S1024_S1024x1_0
          (Host.reduceAdd (mulf x x) (constant S_ .f32 0x00000000#32) reducesTo_S1024x512_S1024_d1 h_S_))
        (broadcastInDim S1024x1 ![] bcast_S_S1024x1 (constant S_ .f32 0x44000000#32)))
        (broadcastInDim S1024x1 ![] bcast_S_S1024x1 (constant S_ .f32 0x3727C5AC#32)))))) bitsLt_bf16_f32

/-- The reference's result at an element. -/
theorem whole_at (x : FVec Ideal S1024x512 .f32) (g : FVec Ideal S512 .f32) (r : Fin 1024) (l : Fin 512) :
    whole x g (ix2 r l)
      = Ideal.div (g (ix1 l) * x (ix2 r l))
          (Ideal.sqrt (Ideal.div (∑ k : Fin 512, x (ix2 r k) * x (ix2 r k)) (Ideal.ofBits .f32 0x44000000#32) + Ideal.ofBits .f32 0x3727C5AC#32)) := by
  pointwise [whole]

end Reference

end Cert.Rows

end
-- ==== Proof.Values.lean ====
/-
  The four devices' results are the blocks of the reference's.
-/
module

public import proofs.«01_k».proof.Proof.Rows
public import proofs.«01_k».proof.Proof.Region
public import Idealize.ShloMosaic.Lib.Layout

@[expose] public section

noncomputable section

namespace Cert.Values

open Idealize.ShloMosaic Idealize.ShloMosaic.TcCoe
open Cert.KernelIdeal Cert.KernelIdeal.Gen Cert.KernelIdeal.Exchange

variable (m : (ℓ : Loc nD τ sig) → Buf (Elt Ideal) ℓ)

/-! ## What the windows hold -/

/-- The first window's block is the device's `x`. -/
theorem xBlk_eq (c : Dev nD) : xBlk m c = m ((c : Thread nD τ).loc main_arg0) :=
  (Memref.read_access_unit_zero (Elt Ideal) main_arg0
    (show (fun a => (win0_0.index t0_0) a * main_arg0.ty.shape.size a) = fun _ => 0 from funext fun a => by fin_cases a <;> decide)
    (fun a => by fin_cases a <;> decide) (V m c main_arg0)).trans (V_main_arg0 m c)

/-- The second window's block is the device's `gamma`, as one row. -/
theorem gBlk_eq (c : Dev nD) : gBlk m c = shapeCast S1x256 (m ((c : Thread nD τ).loc main_arg1)) shapeCasts_S256_S1x256 :=
  (Memref.read_access_unit_zero (Elt Ideal) main_v1
    (show (fun a => (win0_1.index t0_0) a * main_v1.ty.shape.size a) = fun _ => 0 from funext fun a => by fin_cases a <;> decide)
    (fun a => by fin_cases a <;> decide) (V m c main_v1)).trans
    (by
      show StableHlo.after hostOps0 (fun b => m (c, b)) (Proc.devRef .tc main_v1) = _
      after_results
      rfl)

/-! ## Where the blocks lie -/

/-- Row `r` of a device's block is a row of the whole array. -/
theorem up (c : Dev nD) (r : Fin 512) : c.val / 2 * 512 + r.val < 1024 := by
  have := c.isLt; change c.val < 4 at this; omega
/-- Column `l` of a device's block is a column of the whole array. -/
theorem along (c : Dev nD) (l : Fin 256) : c.val % 2 * 256 + l.val < 512 := by omega

/-- Element `(r, l)` of device `c`'s block of a 1024 by 512 array. -/
theorem block_at {α : Type} (c : Dev nD) (X : (⟨2, ![1024, 512]⟩ : Shape).Idx → α) (r : Fin 512) (l : Fin 256) :
    Layout.blockN ⟨2, ![512, 256]⟩ ⟨2, ![1024, 512]⟩ (Layout.meshBlock [2, 2] ![[0], [1]] c) X (by decide) (ix2 r l)
      = X (ix2 ⟨c.val / 2 * 512 + r.val, up c r⟩ ⟨c.val % 2 * 256 + l.val, along c l⟩) := by
  rw [Layout.blockN_apply]
  refine congrArg X (funext fun a => Fin.ext ?_)
  rw [Layout.TilesN.idx_val]
  have hc : c.val < 4 := c.isLt
  fin_cases a
  · show c.val / 2 % 2 * 1 * 512 + r.val = c.val / 2 * 512 + r.val
    omega
  · show c.val / 1 % 2 * 1 * 256 + l.val = c.val % 2 * 256 + l.val
    omega

/-- Element `l` of device `c`'s block of an array of 512. -/
theorem block_along {α : Type} (c : Dev nD) (G : (⟨1, ![512]⟩ : Shape).Idx → α) (l : Fin 256) :
    Layout.blockN ⟨1, ![256]⟩ ⟨1, ![512]⟩ (Layout.meshBlock [2, 2] ![[1]] c) G (by decide) (ix1 l)
      = G (ix1 ⟨c.val % 2 * 256 + l.val, along c l⟩) := by
  rw [Layout.blockN_apply]
  refine congrArg G (funext fun a => Fin.ext ?_)
  rw [Layout.TilesN.idx_val]
  fin_cases a
  show c.val / 1 % 2 * 1 * 256 + l.val = c.val % 2 * 256 + l.val
  omega

/-! ## The two halves of a row -/

section
variable (X : (⟨2, ![1024, 512]⟩ : Shape).Idx → EReal)

/-- The sum of squares over device `c`'s half of its row `r`. -/
def half (c : Dev nD) (r : Fin 512) : EReal :=
  ∑ k : Fin 256, X (ix2 ⟨c.val / 2 * 512 + r.val, up c r⟩ ⟨c.val % 2 * 256 + k.val, along c k⟩)
    * X (ix2 ⟨c.val / 2 * 512 + r.val, up c r⟩ ⟨c.val % 2 * 256 + k.val, along c k⟩)

/-- A device's half and its partner's make the row. -/
theorem half_add (c : Dev nD) (r : Fin 512) :
    half X c r + half X (mate c) r
      = ∑ k : Fin 512, X (ix2 ⟨c.val / 2 * 512 + r.val, up c r⟩ k) * X (ix2 ⟨c.val / 2 * 512 + r.val, up c r⟩ k) := by
  have hc : c.val < 4 := c.isLt
  rw [Cert.Scale.sum_halves]
  have hrow : (⟨(mate c).val / 2 * 512 + r.val, up (mate c) r⟩ : Fin 1024) = ⟨c.val / 2 * 512 + r.val, up c r⟩ :=
    Fin.ext (by show ((2 * (c.val / 2) + 1) - c.val % 2) / 2 * 512 + r.val = c.val / 2 * 512 + r.val; omega)
  rcases Nat.mod_two_eq_zero_or_one c.val with h | h
  · refine congrArg₂ (· + ·) (Finset.sum_congr rfl fun k _ => ?_) (Finset.sum_congr rfl fun k _ => ?_)
    · rw [show (⟨c.val % 2 * 256 + k.val, along c k⟩ : Fin 512) = ⟨k.val, by omega⟩ from Fin.ext (by show _ = k.val; dsimp only; omega)]
    · rw [hrow, show (⟨(mate c).val % 2 * 256 + k.val, along (mate c) k⟩ : Fin 512) = ⟨256 + k.val, by omega⟩ from
        Fin.ext (by show ((2 * (c.val / 2) + 1) - c.val % 2) % 2 * 256 + k.val = 256 + k.val; omega)]
  · rw [add_comm]
    refine congrArg₂ (· + ·) (Finset.sum_congr rfl fun k _ => ?_) (Finset.sum_congr rfl fun k _ => ?_)
    · rw [hrow, show (⟨(mate c).val % 2 * 256 + k.val, along (mate c) k⟩ : Fin 512) = ⟨k.val, by omega⟩ from
        Fin.ext (by show ((2 * (c.val / 2) + 1) - c.val % 2) % 2 * 256 + k.val = k.val; omega)]
    · rw [show (⟨c.val % 2 * 256 + k.val, along c k⟩ : Fin 512) = ⟨256 + k.val, by omega⟩ from Fin.ext (by show _ = 256 + k.val; dsimp only; omega)]

end

/-! ## The result -/

section
variable (X : FVec Ideal ⟨2, ![1024, 512]⟩ .f32) (G : FVec Ideal ⟨1, ![512]⟩ .f32)
  (hX : ∀ c : Dev nD, m ((c : Thread nD τ).loc main_arg0) = Layout.blockN ⟨2, ![512, 256]⟩ ⟨2, ![1024, 512]⟩ (Layout.meshBlock [2, 2] ![[0], [1]] c) X (by decide))
  (hG : ∀ c : Dev nD, m ((c : Thread nD τ).loc main_arg1) = Layout.blockN ⟨1, ![256]⟩ ⟨1, ![512]⟩ (Layout.meshBlock [2, 2] ![[1]] c) G (by decide))
include hX

/-- Element `(r, l)` of the device's first window. -/
theorem x_at (c : Dev nD) (r : Fin 512) (l : Fin 256) :
    xBlk m c (ix2 r l) = X (ix2 ⟨c.val / 2 * 512 + r.val, up c r⟩ ⟨c.val % 2 * 256 + l.val, along c l⟩) := by
  rw [xBlk_eq, hX c]; exact block_at c X r l

/-- A device's partial sums are its halves of its rows' sums of squares. -/
theorem part_at (c : Dev nD) (r : Fin 512) : part m c (ix2 ⟨r.val / 128, by omega⟩ ⟨r.val % 128, by omega⟩) = half X c r := by
  refine (Cert.Rows.partial_at (xBlk m c) ⟨r.val / 128, by omega⟩ ⟨r.val % 128, by omega⟩).trans ?_
  unfold half
  refine Finset.sum_congr rfl fun k _ => ?_
  rw [show (⟨r.val / 128 * 128 + r.val % 128, by omega⟩ : Fin 512) = r from Fin.ext (by dsimp only; omega), x_at m X hX c r k]

include hG

/-- Element `l` of the device's second window. -/
theorem g_at (c : Dev nD) (l : Fin 256) : gBlk m c (ix2 0 l) = G (ix1 ⟨c.val % 2 * 256 + l.val, along c l⟩) := by
  rw [gBlk_eq, ← block_along c G l, ← hG c]
  pointwise

/-- Each device makes its block of the reference's result. -/
theorem made_eq (c : Dev nD) :
    made m c = Layout.blockN ⟨2, ![512, 256]⟩ ⟨2, ![1024, 512]⟩ (Layout.meshBlock [2, 2] ![[0], [1]] c) (Cert.Rows.whole X G) (by decide) := by
  funext j
  obtain ⟨r, l, rfl⟩ : ∃ (r : Fin 512) (l : Fin 256), j = ix2 r l := ⟨j 0, j 1, by funext a; fin_cases a <;> rfl⟩
  refine Eq.trans ?_ (block_at c (Cert.Rows.whole X G) r l).symm
  unfold made
  rw [Cert.Rows.made_at, Cert.Rows.whole_at, part_at m X hX c r, part_at m X hX (mate c) r, half_add, x_at m X hX c r l, g_at m X G hX hG c l,
    Cert.Scale.word_length, Cert.Scale.word_inverse, Cert.Scale.mean_eq, Cert.Scale.div_sqrt _ (Cert.Scale.positive _), mul_comm (G _)]

end

end Cert.Values

end
-- ==== Proof.lean ====
/-
  The five claims. The program and its idealization run by the same two regions, the exchange proved once at each
  reading of the floats (`Whole`, `RoundedWhole`); the reference runs by its list of operations; and the devices'
  results are the blocks of the reference's (`Values`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import proofs.«01_k».proof.Proof.RoundedWhole
public import proofs.«01_k».proof.Proof.Values
public import Idealize.ShloMosaic.Lib.Quiescent
public import Idealize.ShloMosaic.Adequacy
public import Idealize.ShloMosaic.Init

@[expose] public section

noncomputable section

namespace Cert.Proof

open Idealize.ShloMosaic Idealize.SL.Sem

/-- The program as printed ends on every device, its arguments unchanged and its counters at zero. -/
theorem kernel_ends : Cert.quiescent_Kernel := fun m ρ _ =>
  (θ_run Cert.Kernel.defs _ _).mono (fun _ h => ⟨fun c => ⟨(h.1 c).1, (h.1 c).2.1⟩, h.2⟩) (Cert.Kernel.Exchange.run m ρ)

/-- So does its idealization. -/
theorem ideal_ends : Cert.quiescent_KernelIdeal := fun m ρ _ =>
  (θ_run Cert.KernelIdeal.defs _ _).mono (fun _ h => ⟨fun c => ⟨(h.1 c).1, (h.1 c).2.1⟩, h.2⟩) (Cert.KernelIdeal.Exchange.run m ρ)

/-- So does the reference, which has no counter. -/
theorem reference_ends : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run m ρ)

/-- The devices' results are the blocks of the reference's. -/
theorem meets : Cert.algebraic_KernelIdeal_ReferenceIdeal := by
  intro m ρ m' ρ' _ hin
  refine ⟨Cert.Rows.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨(h.1 c).2.2.trans (Cert.Values.made_eq m _ _ (fun c => (hin c).1) (fun c => (hin c).2) c), (h.1 c).1, (h.1 c).2.1⟩)
      (Cert.KernelIdeal.Exchange.run m ρ)
  · exact (θ_run Cert.ReferenceIdeal.defs _ _).mono (fun _ h => h 0) (Cert.ReferenceIdeal.Value.run m' ρ')

/-- All five claims. -/
theorem claim : Cert.Claim :=
  ⟨Cert.Kernel.Gen.facts, Cert.KernelIdeal.Gen.facts, Cert.ReferenceIdeal.Gen.facts, kernel_ends, ideal_ends, reference_ends, trivial, meets⟩

end Cert.Proof

end
